-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x16384 : Shape := ⟨2, ![16384, 16384]⟩
abbrev S16384 : Shape := ⟨1, ![16384]⟩
abbrev S256x16384 : Shape := ⟨2, ![256, 16384]⟩
abbrev S256 : Shape := ⟨1, ![256]⟩

abbrev nBuf : Space → Nat
  | .hbm => 3
  | .vmem => 5
  | .smem => 0
  | _ => 0

abbrev bufTy : (tb : Table) → Fin (tcTables nBuf tb) → BufTy
  | .hbm, ⟨0, _⟩ => ⟨S16384x16384, .f32⟩
  | .hbm, ⟨1, _⟩ => ⟨S16384, .f32⟩
  | .hbm, ⟨2, _⟩ => ⟨S16384, .f32⟩
  | .local _ .vmem, ⟨0, _⟩ => ⟨S16384, .f32⟩
  | .local _ .vmem, ⟨1, _⟩ => ⟨S256x16384, .f32⟩
  | .local _ .vmem, ⟨2, _⟩ => ⟨S256x16384, .f32⟩
  | .local _ .vmem, ⟨3, _⟩ => ⟨S256, .f32⟩
  | .local _ .vmem, ⟨4, _⟩ => ⟨S256, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x16384 : Shape := ⟨2, ![16384, 16384]⟩
abbrev S16384 : Shape := ⟨1, ![16384]⟩

abbrev nBuf : Space → Nat
  | .hbm => 3
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384, .f32⟩
  | .hbm, ⟨2, _⟩ => ⟨S16384, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mv.Spec.lean ====
/-
  The mathematics both programs compute: row `r` of a matrix-vector product is the sum over the columns `k` of
  `A r k * x k`, over the extended reals. Stated for any number of rows, so that it speaks of the whole array
  and of one tile of its rows alike.
-/
module

public import Idealize.ShloMosaic.PureOps.Ideal
public import Idealize.ShloMosaic.Lib.Pointwise

@[expose] public section

noncomputable section

open scoped BigOperators

namespace Cert.Mv

open Idealize.ShloMosaic

/-- Row `r` of the product of the `R × n` matrix `A` with the vector `x`. -/
def row {R n : Nat} (A : (⟨2, ![R, n]⟩ : Shape).Idx → EReal) (x : (⟨1, ![n]⟩ : Shape).Idx → EReal) (r : Fin R) : EReal :=
  ∑ k : Fin n, A (ix2 r k) * x (ix1 k)

/-- The matrix-vector product: entry `i` is row `i` of it. -/
def mv {R n : Nat} (A : (⟨2, ![R, n]⟩ : Shape).Idx → EReal) (x : (⟨1, ![n]⟩ : Shape).Idx → EReal) :
    (⟨1, ![R]⟩ : Shape).Idx → EReal :=
  fun i => row A x (i 0)

/-- Rows of two matrices agree, against vectors that agree, when the rows' entries do: what makes a row of a tile
    the row of the whole array that the tile holds there. -/
theorem row_congr {R R' n : Nat} {A : (⟨2, ![R, n]⟩ : Shape).Idx → EReal} {A' : (⟨2, ![R', n]⟩ : Shape).Idx → EReal}
    {x x' : (⟨1, ![n]⟩ : Shape).Idx → EReal} {r : Fin R} {r' : Fin R'}
    (hA : ∀ k, A (ix2 r k) = A' (ix2 r' k)) (hx : ∀ k, x (ix1 k) = x' (ix1 k)) : row A x r = row A' x' r' :=
  Finset.sum_congr rfl fun k _ => by rw [hA, hx]

/-- The ideal contraction of a matrix's columns with a vector, at index `i`, is the accumulator's entry plus row `i`
    of the matrix-vector product. The four hypotheses say that the contraction is that one: its one contracted axis
    is the columns, and its operand indices are `(i, k)` and `k`. -/
theorem matmul_eq_row {R n : Nat} (d : DotDims ⟨2, ![R, n]⟩ ⟨1, ![n]⟩ ⟨1, ![R]⟩)
    (hc : d.lhsContracting = [1]) (A : (⟨2, ![R, n]⟩ : Shape).Idx → EReal) (x : (⟨1, ![n]⟩ : Shape).Idx → EReal)
    (acc : (⟨1, ![R]⟩ : Shape).Idx → EReal) (i : (⟨1, ![R]⟩ : Shape).Idx)
    (h0 : ∀ k, (d.lhsIdx i k 0 : Nat) = i 0)
    (h1 : ∀ k : Fin n, (d.lhsIdx i (d.contrIdx₁ hc rfl k) 1 : Nat) = k)
    (h2 : ∀ k : Fin n, (d.rhsIdx i (d.contrIdx₁ hc rfl k) 0 : Nat) = k) :
    Ideal.matmul d A x acc i = acc i + row A x (i 0) := by
  refine Ideal.matmul_apply₁_of d hc rfl A x acc i (fun k => ix2 (i 0) k) (fun k => ix1 k) (fun k => ?_) (fun k => ?_)
  · refine Eq.trans (eq_ix2 _) ?_
    exact congrArg₂ ix2 (Fin.ext (h0 _)) (Fin.ext (h1 k))
  · refine Eq.trans (eq_ix1 _) ?_
    exact congrArg ix1 (Fin.ext (h2 k))

end Cert.Mv

end
-- ==== Proof.Mv.Reference.lean ====
/-
  The reference: one host `dot_general` of the whole arrays, read as the matrix-vector product.
-/
module

public import proofs.«01_k».proof.Proof.Mv.Spec
public import proofs.«01_k».proof.Proof.Gen.ReferenceIdeal.Run

@[expose] public section

noncomputable section

namespace Cert.Mv.Reference

open Cert.ReferenceIdeal Cert.ReferenceIdeal.Gen Idealize.ShloMosaic

/-- The reference's term is the matrix-vector product of its two arguments. -/
theorem dot_eq (A : S16384x16384.Idx → EReal) (x : S16384.Idx → EReal) :
    Host.dotGeneral (F := Ideal) (φ₁ := .f32) (φ₂ := .f32) dot_S16384x16384_S16384_S16384_1_0_0_n_n_n none A x
      = mv (R := 16384) (n := 16384) A x := by
  funext i
  refine (matmul_eq_row (R := 16384) (n := 16384) dot_S16384x16384_S16384_S16384_1_0_0_n_n_n rfl A x (fun _ => 0) i
    (fun k => rfl) (fun k => rfl) (fun k => rfl)).trans ?_
  exact zero_add _

end Cert.Mv.Reference

end
-- ==== Proof.Mv.Tile.lean ====
/-
  One grid point of the kernel, at the ideal instance: the body's store is the matrix-vector product of the 256 rows
  staged at the point with the whole vector, and the staged blocks are the arguments' entries at the rows
  `256 * t, ..., 256 * t + 255`.
-/
module

public import proofs.«01_k».proof.Proof.Mv.Spec
public import proofs.«01_k».proof.Proof.Gen.KernelIdeal.Value

@[expose] public section

noncomputable section

namespace Cert.Mv.Tile

open Cert.KernelIdeal Cert.KernelIdeal.Gen Idealize.ShloMosaic Idealize.ShloMosaic.TcCoe
  Idealize.SL.Sem

/-- The word of the zero accumulator is the real number zero. -/
theorem word_zero : Ideal.ofBits .f32 0x00000000#32 = 0 := by simp [Ideal.ofBits, Ideal.ieee]

/-- The body's payload is the matrix-vector product of the tile with the vector: the accumulator is zero. -/
theorem payload_eq (T : S256x16384.Idx → EReal) (x : S16384.Idx → EReal) :
    k0_pay1 (F := Ideal) T x = mv (R := 256) (n := 16384) T x := by
  funext i
  refine (matmul_eq_row (R := 256) (n := 16384) dot_S256x16384_S16384_S256_1_0_0_n_n_n rfl T x
    (fun _ => Ideal.ofBits .f32 0x00000000#32) i (fun k => rfl) (fun k => rfl) (fun k => rfl)).trans ?_
  rw [word_zero]
  exact zero_add _

/-- The offsets of the body's accesses, on one axis and on two, are all zero. -/
theorem off1 : (![0] : Fin 1 → Nat) = fun _ => 0 := funext fun a => by fin_cases a; rfl
theorem off2 : (![0, 0] : Fin 2 → Nat) = fun _ => 0 := funext fun a => by fin_cases a <;> rfl

/-- What the body leaves in the output's staging buffer is that product: it loads both staged blocks whole and stores
    through the whole buffer. -/
theorem out_eq (x : S16384.Idx → EReal) (T : S256x16384.Idx → EReal) :
    out0_2 (F := Ideal) x T = mv (R := 256) (n := 16384) T x := by
  unfold out0_2
  rw [View.canon_unit_zero off1, View.ld_unit_zero off2, View.ld_unit_zero off1]
  exact payload_eq T x

/-! ### Which entries of the arguments the blocks at point `t` are -/

/-- The three windows' block indices at a point, decided over the 64 points: the vector's is 0, the matrix's is row
    block `t` of column block 0, and the result's is block `t`. -/
theorem index_facts : ∀ t : Fin cfg0.N, win0_0.index t 0 = 0 ∧ win0_1.index t 0 = t.val ∧ win0_1.index t 1 = 0
    ∧ win0_2.index t 0 = t.val :=
  (by decide +kernel : ∀ t : Fin grid0.N, win0_0.index t 0 = 0 ∧ win0_1.index t 0 = t.val ∧ win0_1.index t 1 = 0
    ∧ win0_2.index t 0 = t.val)

variable (m : (ℓ : Loc nD τ sig) → Buf (Elt Ideal) ℓ) (c : Dev nD)

/-- The matrix and the vector that the kernel is launched on. -/
abbrev argA : S16384x16384.Idx → EReal := m ((c : Thread nD τ).loc main_arg0)
abbrev argX : S16384.Idx → EReal := m ((c : Thread nD τ).loc main_arg1)

/-- The staged vector is the argument, at every point. -/
theorem block_x (t : Fin cfg0.N) (k : Fin 16384) :
    (iblk m c 0 t : S16384.Idx → EReal) (ix1 k) = argX m c (ix1 k) := by
  show argX m c ((win0_0.rect t).emb (ix1 k)) = argX m c (ix1 k)
  refine congrArg (argX m c) ?_
  refine Eq.trans (eq_ix1 _) (congrArg ix1 (Fin.ext ?_))
  exact win0_0.rect_emb_val_of_index_zero t 0 (index_facts t).1 (ix1 k)

/-- Row `r` of the staged tile is the argument's row that the result's block `t` places `r` at. -/
theorem block_A (t : Fin cfg0.N) (r : S256.Idx) (k : Fin 16384) :
    (iblk m c 1 t : S256x16384.Idx → EReal) (ix2 (r 0) k) = argA m c (ix2 ((win0_2.rect t).emb r 0) k) := by
  show argA m c ((win0_1.rect t).emb (ix2 (r 0) k)) = _
  refine congrArg (argA m c) ?_
  refine Eq.trans (eq_ix2 _) (congrArg₂ ix2 (Fin.ext ?_) (Fin.ext ?_))
  · refine (win0_1.rect_emb_val t (ix2 (r 0) k) 0).trans (Eq.trans ?_ (win0_2.rect_emb_val t r 0).symm)
    rw [(index_facts t).2.1, (index_facts t).2.2.2]
    rfl
  · exact win0_1.rect_emb_val_of_index_zero t 1 (index_facts t).2.2.1 (ix2 (r 0) k)

/-- So entry `r` of the staged tile's product is the entry of the whole product that the result's block `t` places `r` at. -/
theorem tile_row (t : Fin cfg0.N) (r : S256.Idx) :
    mv (R := 256) (n := 16384) (iblk m c 1 t) (iblk m c 0 t) r
      = mv (R := 16384) (n := 16384) (argA m c) (argX m c) ((win0_2.rect t).emb r) :=
  row_congr (block_A m c t r) (block_x m c t)

/-- Block `t` of any contents of the result array, at position `r`, is the entry that the block places `r` at. -/
theorem block_out (t : Fin cfg0.N) (G : S16384.Idx → EReal) (r : S256.Idx) :
    (win0_2.blk t).view.read (Elt Ideal) G r = G ((win0_2.rect t).emb r) := rfl

/-- What point `t` writes back is its block of the whole matrix-vector product. -/
theorem flushed_eq (t : Fin cfg0.N) :
    (dats m 0 c).flushed 2 t = (win0_2.blk t).view.read (Elt Ideal) (mv (R := 16384) (n := 16384) (argA m c) (argX m c)) := by
  refine (Cert.KernelIdeal.Value.flushed2 m c t).trans ?_
  rw [out_eq (iblk m c 0 t) (iblk m c 1 t)]
  funext r
  have h := block_out t (mv (R := 16384) (n := 16384) (argA m c) (argX m c)) r
  exact (tile_row m c t r).trans h.symm

end Cert.Mv.Tile

end
-- ==== Proof.Mv.Whole.lean ====
/-
  The kernel's result array after the 64 grid points: the result's blocks tile it, each is the block of the whole
  matrix-vector product, so the array is that product.
-/
module

public import proofs.«01_k».proof.Proof.Mv.Tile

@[expose] public section

noncomputable section

namespace Cert.Mv.Whole

open Cert.KernelIdeal Cert.KernelIdeal.Gen Idealize.ShloMosaic Idealize.ShloMosaic.TcCoe
  Idealize.SL.Sem Cert.Mv.Tile

/-- Entry `i` of the result is in the block of grid point `i / 256`, at position `i % 256` of it. -/
theorem tiles (i : S16384.Idx) : ∃ t : Fin cfg0.N, (cfg0.win 2).flush t = true ∧ i ∈ ((cfg0.win 2).blk t).view.set := by
  have hi : (i 0 : Nat) < 16384 := (i 0).isLt
  have hN : cfg0.N = 64 := rfl
  obtain ⟨t, ht⟩ : ∃ t : Fin cfg0.N, t.val = (i 0 : Nat) / 256 := ⟨⟨(i 0 : Nat) / 256, by omega⟩, rfl⟩
  refine ⟨t, flush0_2 t, ?_⟩
  have e : (win0_2.rect t).emb (ix1 (n0 := 256) ⟨(i 0 : Nat) % 256, Nat.mod_lt _ (by decide)⟩) = i := by
    refine Eq.trans (eq_ix1 _) (Eq.trans (congrArg ix1 (Fin.ext ?_)) (eq_ix1 i).symm)
    refine (win0_2.rect_emb_val t _ 0).trans ?_
    rw [(index_facts t).2.2.2, ht]
    show (i 0 : Nat) / 256 * 256 + (i 0 : Nat) % 256 = i 0
    omega
  have h := ((cfg0.win 2).blk t).view.emb_mem_set (ix1 (n0 := 256) ⟨(i 0 : Nat) % 256, Nat.mod_lt _ (by decide)⟩)
  exact e ▸ h

variable (m : (ℓ : Loc nD τ sig) → Buf (Elt Ideal) ℓ) (ρ : Dev nD → PrngReg)

/-- After the run the result array is the matrix-vector product of the two arguments. -/
theorem result_eq (c : Dev nD) :
    (dats m 0 c).arrAt 2 cfg0.N = mv (R := 16384) (n := 16384) (argA m c) (argX m c) :=
  (dats m 0 c).arrAt_eq_of_cover 2 (mv (R := 16384) (n := 16384) (argA m c) (argX m c)) (fun t _ => flushed_eq m c t) tiles

/-- The kernel's run: the result is the matrix-vector product, the arguments are unchanged. -/
theorem run : θ_run defs (onTc (τ := τ) (main (F := Ideal))) ⟨m, fun _ => 0, ρ⟩ fun r => ∀ c : Dev nD,
      r.2.mem ((c : Thread nD τ).loc main_v0) = mv (R := 16384) (n := 16384) (argA m c) (argX m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Cert.KernelIdeal.Value.run_blocks m ρ)

end Cert.Mv.Whole

end
-- ==== Proof.lean ====
/-
  The certificate: the two kernel programs' frames are the generated ones, the reference's frame is its run with the
  result forgotten, and the value claim holds because both programs leave the matrix-vector product of their
  arguments (`Cert.Mv.mv`) in the result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Mv.Reference
public import proofs.«01_k».proof.Proof.Mv.Whole
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, leaves its arguments unchanged and every counter at zero: it has no semaphore. -/
theorem reference_frame : Cert.quiescent_ReferenceIdeal := fun m g _ =>
  (θ_run _ _ _).mono (fun r h => ⟨fun c => (h c).2, sem_eq_zero_of_no_sems rfl r.2⟩) (Cert.ReferenceIdeal.Value.run m g)

/-- Over the extended reals the kernel and the reference leave the same array: the matrix-vector product. -/
theorem value : Cert.algebraic_KernelIdeal_ReferenceIdeal := fun m g m' g' _ hargs =>
  ⟨fun c => Cert.Mv.mv (R := 16384) (n := 16384) (Cert.Mv.Tile.argA m c) (Cert.Mv.Tile.argX m c),
    Cert.Mv.Whole.run m g,
    (θ_run _ _ _).mono (fun r h c => ⟨(h c).1.trans ((Cert.Mv.Reference.dot_eq _ _).trans
        (congrArg₂ (Cert.Mv.mv (R := 16384) (n := 16384)) (hargs c).1 (hargs c).2)), (h c).2⟩)
      (Cert.ReferenceIdeal.Value.run m' g')⟩

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, value⟩

end Cert.Proof

end
